-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_data [hPre_finite_data : Cert.Pre_finite_data.Facts] (m : (ℓ : Loc Cert.KernelIdeal.nD Cert.KernelIdeal.τ Cert.KernelIdeal.sig) → Buf (Elt Ideal) ℓ) : Prop :=
  ∀ c : Dev Cert.KernelIdeal.nD,
    (Cert.Pre_finite_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_data.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_data [hPre_finite_data : Cert.Pre_finite_data.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_data.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_data [hKernelIdeal : Cert.KernelIdeal.Facts] [hPre_finite_data : Cert.Pre_finite_data.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_data m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_data [hReferenceIdeal : Cert.ReferenceIdeal.Facts] [hPre_finite_data : Cert.Pre_finite_data.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_data m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_data [hKernelIdeal : Cert.KernelIdeal.Facts] [hReferenceIdeal : Cert.ReferenceIdeal.Facts] [hPre_finite_data : Cert.Pre_finite_data.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_data m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_data : Cert.Pre_finite_data.Facts),
    quiescent_Kernel (hKernel := hKernel)
    ∧ quiescent_KernelIdeal (hKernelIdeal := hKernelIdeal)
    ∧ quiescent_KernelIdeal_pre_finite_data (hKernelIdeal := hKernelIdeal) (hPre_finite_data := hPre_finite_data)
    ∧ quiescent_ReferenceIdeal (hReferenceIdeal := hReferenceIdeal)
    ∧ quiescent_ReferenceIdeal_pre_finite_data (hReferenceIdeal := hReferenceIdeal) (hPre_finite_data := hPre_finite_data)
    ∧ preserves_Kernel_KernelIdeal
    ∧ algebraic_KernelIdeal_ReferenceIdeal_pre_finite_data (hKernelIdeal := hKernelIdeal) (hReferenceIdeal := hReferenceIdeal) (hPre_finite_data := hPre_finite_data)
-- ==== Pre_finite_data.lean ====
abbrev S1x32x32x128x128 : Shape := ⟨5, ![1, 32, 32, 128, 128]⟩
abbrev S1x32x32x128 : Shape := ⟨4, ![1, 32, 32, 128]⟩
abbrev S256x128 : Shape := ⟨2, ![256, 128]⟩
abbrev S_ : Shape := ⟨0, ![]⟩

class Facts : Prop where
  bcast_S_S1x32x32x128x128 : S_.BroadcastsInDim S1x32x32x128x128 (![] : Fin 0 → Fin S1x32x32x128x128.rank)

variable [Facts]

def fn {F : FTy → Type} [FloatOps F] (main_arg0 : FVec F S1x32x32x128x128 .f32) (main_arg1 : IVec S1x32x32x128 32) (main_arg2 : FVec F S256x128 .f32) : IVec S1x32x32x128x128 1 × IVec S1x32x32x128 1 × IVec S256x128 1 :=
  let main_v0 : FVec F S1x32x32x128x128 .f32 := Host.absf main_arg0
  let main_cst : FVec F S_ .f32 := constant S_ .f32 0x7F800000#32
  let main_v1 : FVec F S1x32x32x128x128 .f32 := broadcastInDim S1x32x32x128x128 ![] bcast_S_S1x32x32x128x128 main_cst
  let main_v2 : IVec S1x32x32x128x128 1 := cmpf .olt main_v0 main_v1
  let main_v3 : IVec S1x32x32x128 1 := cmpi .eq main_arg1 main_arg1
  let main_v4 : IVec S256x128 1 := cmpf .oeq main_arg2 main_arg2
  (main_v2, main_v3, main_v4)
-- ==== Kernel.lean ====
abbrev S1x32x32x128x128 : Shape := ⟨5, ![1, 32, 32, 128, 128]⟩
abbrev S1x32x32x128 : Shape := ⟨4, ![1, 32, 32, 128]⟩
abbrev S256x128 : Shape := ⟨2, ![256, 128]⟩
abbrev S1024x128x128 : Shape := ⟨3, ![1024, 128, 128]⟩
abbrev S1024x1x128 : Shape := ⟨3, ![1024, 1, 128]⟩
abbrev S128x128 : Shape := ⟨2, ![128, 128]⟩
abbrev S256 : Shape := ⟨1, ![256]⟩
abbrev S256x1 : Shape := ⟨2, ![256, 1]⟩
abbrev S_ : Shape := ⟨0, ![]⟩
abbrev S32 : Shape := ⟨1, ![32]⟩
abbrev S1x32 : Shape := ⟨2, ![1, 32]⟩
abbrev S256x32 : Shape := ⟨2, ![256, 32]⟩
abbrev S128x16 : Shape := ⟨2, ![128, 16]⟩
abbrev S1024x128x32 : Shape := ⟨3, ![1024, 128, 32]⟩
abbrev S1024x128x16 : Shape := ⟨3, ![1024, 128, 16]⟩
abbrev S128x128x128 : Shape := ⟨3, ![128, 128, 128]⟩
abbrev S128x1x128 : Shape := ⟨3, ![128, 1, 128]⟩
abbrev S128x128x32 : Shape := ⟨3, ![128, 128, 32]⟩
abbrev S128x128x16 : Shape := ⟨3, ![128, 128, 16]⟩
abbrev S16384x128 : Shape := ⟨2, ![16384, 128]⟩
abbrev S16384x256 : Shape := ⟨2, ![16384, 256]⟩
abbrev S16384x32 : Shape := ⟨2, ![16384, 32]⟩
abbrev S16384x16 : Shape := ⟨2, ![16384, 16]⟩
abbrev S1x32x32x128x32 : Shape := ⟨5, ![1, 32, 32, 128, 32]⟩
abbrev S1x32x32x128x16 : Shape := ⟨5, ![1, 32, 32, 128, 16]⟩

abbrev nBuf : Space → Nat
  | .hbm => 69
  | .vmem => 12
  | .smem => 0
  | _ => 0

abbrev bufTy : (tb : Table) → Fin (tcTables nBuf tb) → BufTy
  | .hbm, ⟨0, _⟩ => ⟨S1x32x32x128x128, .f32⟩
  | .hbm, ⟨1, _⟩ => ⟨S1x32x32x128, .i32⟩
  | .hbm, ⟨2, _⟩ => ⟨S256x128, .f32⟩
  | .hbm, ⟨3, _⟩ => ⟨S1024x128x128, .f32⟩
  | .hbm, ⟨4, _⟩ => ⟨S1x32x32x128, .f32⟩
  | .hbm, ⟨5, _⟩ => ⟨S1024x1x128, .f32⟩
  | .hbm, ⟨6, _⟩ => ⟨S128x128, .f32⟩
  | .hbm, ⟨7, _⟩ => ⟨S256, .i32⟩
  | .hbm, ⟨8, _⟩ => ⟨S256x1, .i32⟩
  | .hbm, ⟨9, _⟩ => ⟨S_, .i32⟩
  | .hbm, ⟨10, _⟩ => ⟨S_, .i32⟩
  | .hbm, ⟨11, _⟩ => ⟨S256x1, .i32⟩
  | .hbm, ⟨12, _⟩ => ⟨S256x1, .i32⟩
  | .hbm, ⟨13, _⟩ => ⟨S256x1, .i32⟩
  | .hbm, ⟨14, _⟩ => ⟨S_, .i32⟩
  | .hbm, ⟨15, _⟩ => ⟨S256x1, .i32⟩
  | .hbm, ⟨16, _⟩ => ⟨S256x1, .i1⟩
  | .hbm, ⟨17, _⟩ => ⟨S256x1, .i32⟩
  | .hbm, ⟨18, _⟩ => ⟨S256x1, .i32⟩
  | .hbm, ⟨19, _⟩ => ⟨S_, .i32⟩
  | .hbm, ⟨20, _⟩ => ⟨S256x1, .i32⟩
  | .hbm, ⟨21, _⟩ => ⟨S256x1, .i1⟩
  | .hbm, ⟨22, _⟩ => ⟨S256x1, .i1⟩
  | .hbm, ⟨23, _⟩ => ⟨S_, .i32⟩
  | .hbm, ⟨24, _⟩ => ⟨S256x1, .i32⟩
  | .hbm, ⟨25, _⟩ => ⟨S256x1, .i32⟩
  | .hbm, ⟨26, _⟩ => ⟨S256x1, .i32⟩
  | .hbm, ⟨27, _⟩ => ⟨S32, .i32⟩
  | .hbm, ⟨28, _⟩ => ⟨S1x32, .i32⟩
  | .hbm, ⟨29, _⟩ => ⟨S256x32, .i32⟩
  | .hbm, ⟨30, _⟩ => ⟨S256x32, .i32⟩
  | .hbm, ⟨31, _⟩ => ⟨S256x32, .i1⟩
  | .hbm, ⟨32, _⟩ => ⟨S256x1, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S256x1, .i32⟩
  | .hbm, ⟨40, _⟩ => ⟨S256x1, .i32⟩
  | .hbm, ⟨41, _⟩ => ⟨S_, .i32⟩
  | .hbm, ⟨42, _⟩ => ⟨S256x1, .i32⟩
  | .hbm, ⟨43, _⟩ => ⟨S256x1, .i1⟩
  | .hbm, ⟨44, _⟩ => ⟨S_, .i32⟩
  | .hbm, ⟨45, _⟩ => ⟨S256x1, .i32⟩
  | .hbm, ⟨46, _⟩ => ⟨S256x1, .i1⟩
  | .hbm, ⟨47, _⟩ => ⟨S_, .i32⟩
  | .hbm, ⟨48, _⟩ => ⟨S_, .i1⟩
  | .hbm, ⟨49, _⟩ => ⟨S256x1, .i1⟩
  | .hbm, ⟨50, _⟩ => ⟨S256x1, .i1⟩
  | .hbm, ⟨51, _⟩ => ⟨S256x1, .i1⟩
  | .hbm, ⟨52, _⟩ => ⟨S256x1, .i32⟩
  | .hbm, ⟨53, _⟩ => ⟨S256x1, .i32⟩
  | .hbm, ⟨54, _⟩ => ⟨S256x1, .i32⟩
  | .hbm, ⟨55, _⟩ => ⟨S_, .i32⟩
  | .hbm, ⟨56, _⟩ => ⟨S256x1, .i32⟩
  | .hbm, ⟨57, _⟩ => ⟨S256x1, .i32⟩
  | .hbm, ⟨58, _⟩ => ⟨S_, .i32⟩
  | .hbm, ⟨59, _⟩ => ⟨S_, .i32⟩
  | .hbm, ⟨60, _⟩ => ⟨S256x32, .i32⟩
  | .hbm, ⟨61, _⟩ => ⟨S256x32, .i32⟩
  | .hbm, ⟨62, _⟩ => ⟨S256x32, .i32⟩
  | .hbm, ⟨63, _⟩ => ⟨S256x32, .i8⟩
  | .hbm, ⟨64, _⟩ => ⟨S128x16, .i8⟩
  | .hbm, ⟨65, _⟩ => ⟨S1024x128x32, .i8⟩
  | .hbm, ⟨66, _⟩ => ⟨S1024x128x16, .i8⟩
  | .hbm, ⟨67, _⟩ => ⟨S1x32x32x128x32, .i8⟩
  | .hbm, ⟨68, _⟩ => ⟨S1x32x32x128x16, .i8⟩
  | .local _ .vmem, ⟨0, _⟩ => ⟨S128x128x128, .f32⟩
  | .local _ .vmem, ⟨1, _⟩ => ⟨S128x128x128, .f32⟩
  | .local _ .vmem, ⟨2, _⟩ => ⟨S128x1x128, .f32⟩
  | .local _ .vmem, ⟨3, _⟩ => ⟨S128x1x128, .f32⟩
  | .local _ .vmem, ⟨4, _⟩ => ⟨S256x128, .f32⟩
  | .local _ .vmem, ⟨5, _⟩ => ⟨S128x128, .f32⟩
  | .local _ .vmem, ⟨6, _⟩ => ⟨S256x32, .i8⟩
  | .local _ .vmem, ⟨7, _⟩ => ⟨S128x16, .i8⟩
  | .local _ .vmem, ⟨8, _⟩ => ⟨S128x128x32, .i8⟩
  | .local _ .vmem, ⟨9, _⟩ => ⟨S128x128x32, .i8⟩
  | .local _ .vmem, ⟨10, _⟩ => ⟨S128x128x16, .i8⟩
  | .local _ .vmem, ⟨11, _⟩ => ⟨S128x128x16, .i8⟩
  | _, _ => ⟨S1x32x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_0 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v13 : Ref sig .tc := ⟨.hbm, 54, rfl⟩
abbrev main_c_1 : Ref sig .tc := ⟨.hbm, 55, rfl⟩
abbrev main_v14 : Ref sig .tc := ⟨.hbm, 56, rfl⟩
abbrev main_v15 : Ref sig .tc := ⟨.hbm, 57, rfl⟩
abbrev main_c_2 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19_0 : Ref sig .tc := ⟨.hbm, 65, rfl⟩
abbrev main_v19_1 : Ref sig .tc := ⟨.hbm, 66, rfl⟩
abbrev main_v20 : Ref sig .tc := ⟨.hbm, 67, rfl⟩
abbrev main_v21 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x32 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x128x32 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128x16 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1x32x32x128x128 : Shape := ⟨5, ![1, 32, 32, 128, 128]⟩
abbrev S1x32x32x128 : Shape := ⟨4, ![1, 32, 32, 128]⟩
abbrev S256x128 : Shape := ⟨2, ![256, 128]⟩
abbrev S1x32x32x1x128 : Shape := ⟨5, ![1, 32, 32, 1, 128]⟩
abbrev S_ : Shape := ⟨0, ![]⟩
abbrev S1x32x32x128x256 : Shape := ⟨5, ![1, 32, 32, 128, 256]⟩
abbrev S1x32x32x128x32x8 : Shape := ⟨6, ![1, 32, 32, 128, 32, 8]⟩
abbrev S8 : Shape := ⟨1, ![8]⟩
abbrev S1x1x1x8 : Shape := ⟨4, ![1, 1, 1, 8]⟩
abbrev S1x1x1x1x1x8 : Shape := ⟨6, ![1, 1, 1, 1, 1, 8]⟩
abbrev S1x32x32x128x32 : Shape := ⟨5, ![1, 32, 32, 128, 32]⟩
abbrev S1x32x32x128x16 : Shape := ⟨5, ![1, 32, 32, 128, 16]⟩

abbrev nBuf : Space → Nat
  | .hbm => 138
  | .vmem => 0
  | .smem => 0
  | _ => 0

abbrev hbmTy0_0 (i : Nat) : BufTy := match i % 128 with
  | 0 => ⟨S1x32x32x128x128, .f32⟩
  | 1 => ⟨S1x32x32x128, .i32⟩
  | 2 => ⟨S256x128, .f32⟩
  | 3 => ⟨S1x32x32x128, .f32⟩
  | 4 => ⟨S1x32x32x1x128, .f32⟩
  | 5 => ⟨S1x32x32x128x128, .f32⟩
  | 6 => ⟨S1x32x32x128x128, .f32⟩
  | 7 => ⟨S_, .f32⟩
  | 8 => ⟨S1x32x32x1x128, .f32⟩
  | 9 => ⟨S1x32x32x1x128, .f32⟩
  | 10 => ⟨S1x32x32x128x128, .f32⟩
  | 11 => ⟨S1x32x32x128x128, .f32⟩
  | 12 => ⟨S1x32x32x128x256, .f32⟩
  | 13 => ⟨S1x32x32x128x256, .f32⟩
  | 14 => ⟨S1x32x32x128x32x8, .f32⟩
  | 15 => ⟨S1x32x32x128x32x8, .f32⟩
  | 16 => ⟨S_, .f32⟩
  | 17 => ⟨S1x32x32x128x32x8, .f32⟩
  | 18 => ⟨S1x32x32x128x32x8, .i1⟩
  | 19 => ⟨S_, .f32⟩
  | 20 => ⟨S1x32x32x128x32x8, .f32⟩
  | 21 => ⟨S1x32x32x128x32x8, .i1⟩
  | 22 => ⟨S8, .i32⟩
  | 23 => ⟨S_, .i32⟩
  | 24 => ⟨S_, .i32⟩
  | 25 => ⟨S_, .i1⟩
  | 26 => ⟨S_, .i32⟩
  | 27 => ⟨S8, .i32⟩
  | 28 => ⟨S8, .i1⟩
  | 29 => ⟨S8, .i1⟩
  | 30 => ⟨S8, .i1⟩
  | 31 => ⟨S_, .i32⟩
  | 32 => ⟨S_, .i32⟩
  | 33 => ⟨S8, .i32⟩
  | 34 => ⟨S8, .i32⟩
  | 35 => ⟨S8, .i32⟩
  | 36 => ⟨S_, .i32⟩
  | 37 => ⟨S8, .i32⟩
  | 38 => ⟨S8, .i32⟩
  | 39 => ⟨S_, .i32⟩
  | 40 => ⟨S8, .i32⟩
  | 41 => ⟨S8, .i32⟩
  | 42 => ⟨S_, .i32⟩
  | 43 => ⟨S8, .i32⟩
  | 44 => ⟨S8, .i1⟩
  | 45 => ⟨S8, .i32⟩
  | 46 => ⟨S_, .i32⟩
  | 47 => ⟨S_, .i32⟩
  | 48 => ⟨S_, .i32⟩
  | 49 => ⟨S_, .i32⟩
  | 50 => ⟨S8, .i32⟩
  | 51 => ⟨S8, .i32⟩
  | 52 => ⟨S_, .i32⟩
  | 53 => ⟨S8, .i32⟩
  | 54 => ⟨S8, .i32⟩
  | 55 => ⟨S8, .i32⟩
  | 56 => ⟨S8, .i32⟩
  | 57 => ⟨S_, .i32⟩
  | 58 => ⟨S8, .i32⟩
  | 59 => ⟨S8, .i1⟩
  | 60 => ⟨S8, .i32⟩
  | 61 => ⟨S_, .i32⟩
  | 62 => ⟨S_, .i32⟩
  | 63 => ⟨S8, .i32⟩
  | 64 => ⟨S8, .i32⟩
  | 65 => ⟨S_, .i32⟩
  | 66 => ⟨S8, .i32⟩
  | 67 => ⟨S8, .i32⟩
  | 68 => ⟨S8, .i32⟩
  | 69 => ⟨S8, .i32⟩
  | 70 => ⟨S_, .i32⟩
  | 71 => ⟨S8, .i32⟩
  | 72 => ⟨S8, .i1⟩
  | 73 => ⟨S8, .i32⟩
  | 74 => ⟨S_, .i32⟩
  | 75 => ⟨S_, .i32⟩
  | 76 => ⟨S8, .i32⟩
  | 77 => ⟨S8, .i32⟩
  | 78 => ⟨S_, .i32⟩
  | 79 => ⟨S8, .i32⟩
  | 80 => ⟨S8, .i32⟩
  | 81 => ⟨S8, .i32⟩
  | 82 => ⟨S8, .i32⟩
  | 83 => ⟨S_, .i32⟩
  | 84 => ⟨S8, .i32⟩
  | 85 => ⟨S8, .i1⟩
  | 86 => ⟨S8, .i32⟩
  | 87 => ⟨S_, .i32⟩
  | 88 => ⟨S_, .i32⟩
  | 89 => ⟨S8, .i32⟩
  | 90 => ⟨S8, .i32⟩
  | 91 => ⟨S_, .i32⟩
  | 92 => ⟨S8, .i32⟩
  | 93 => ⟨S8, .i32⟩
  | 94 => ⟨S8, .i32⟩
  | 95 => ⟨S8, .i32⟩
  | 96 => ⟨S_, .i32⟩
  | 97 => ⟨S8, .i32⟩
  | 98 => ⟨S8, .i1⟩
  | 99 => ⟨S8, .i32⟩
  | 100 => ⟨S_, .i32⟩
  | 101 => ⟨S_, .i32⟩
  | 102 => ⟨S8, .i32⟩
  | 103 => ⟨S8, .i32⟩
  | 104 => ⟨S_, .i32⟩
  | 105 => ⟨S8, .i32⟩
  | 106 => ⟨S8, .i32⟩
  | 107 => ⟨S8, .i32⟩
  | 108 => ⟨S8, .i32⟩
  | 109 => ⟨S_, .i32⟩
  | 110 => ⟨S8, .i32⟩
  | 111 => ⟨S8, .i1⟩
  | 112 => ⟨S8, .i32⟩
  | 113 => ⟨S_, .i32⟩
  | 114 => ⟨S_, .i32⟩
  | 115 => ⟨S8, .i32⟩
  | 116 => ⟨S8, .i32⟩
  | 117 => ⟨S8, .i8⟩
  | 118 => ⟨S1x1x1x8, .i8⟩
  | 119 => ⟨S1x32x32x128x32x8, .i8⟩
  | 120 => ⟨S1x32x32x128x32x8, .i32⟩
  | 121 => ⟨S1x1x1x8, .i32⟩
  | 122 => ⟨S1x1x1x1x1x8, .i32⟩
  | 123 => ⟨S1x32x32x128x32x8, .i32⟩
  | 124 => ⟨S1x32x32x128x32x8, .i32⟩
  | 125 => ⟨S_, .i32⟩
  | 126 => ⟨S1x32x32x128x32, .i32⟩
  | 127 => ⟨S1x32x32x128x32, .i8⟩
  | _ => ⟨S1x32x32x128x128, .f32⟩

abbrev hbmTy0_1 (i : Nat) : BufTy := match i % 128 with
  | 0 => ⟨S1x32x32x128x32x8, .i8⟩
  | 1 => ⟨S1x32x32x128x32x8, .i32⟩
  | 2 => ⟨S1x1x1x8, .i32⟩
  | 3 => ⟨S1x1x1x1x1x8, .i32⟩
  | 4 => ⟨S1x32x32x128x32x8, .i32⟩
  | 5 => ⟨S1x32x32x128x32x8, .i32⟩
  | 6 => ⟨S_, .i32⟩
  | 7 => ⟨S1x32x32x128x32, .i32⟩
  | 8 => ⟨S1x32x32x128x32, .i8⟩
  | 9 => ⟨S1x32x32x128x16, .i8⟩
  | _ => ⟨S1x32x32x128x128, .f32⟩

abbrev hbmTy (i : Nat) : BufTy := match i / 128 with
  | 0 => hbmTy0_0 i
  | 1 => hbmTy0_1 i
  | _ => ⟨S1x32x32x128x128, .f32⟩

abbrev bufTy : (tb : Table) → Fin (tcTables nBuf tb) → BufTy
  | .hbm, ⟨i, _⟩ => hbmTy i
  | _, _ => ⟨S1x32x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_c_2 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_c_5 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_c_7 : Ref sig .tc := ⟨.hbm, 39, rfl⟩
abbrev main_v25 : Ref sig .tc := ⟨.hbm, 40, rfl⟩
abbrev main_v26 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_v27 : Ref sig .tc := ⟨.hbm, 45, rfl⟩
abbrev main_c_8 : Ref sig .tc := ⟨.hbm, 46, rfl⟩
abbrev main_c_9 : Ref sig .tc := ⟨.hbm, 47, rfl⟩
abbrev main_v28 : Ref sig .tc := ⟨.hbm, 48, rfl⟩
abbrev main_c_10 : Ref sig .tc := ⟨.hbm, 49, rfl⟩
abbrev main_v29 : Ref sig .tc := ⟨.hbm, 50, rfl⟩
abbrev main_v30 : Ref sig .tc := ⟨.hbm, 51, rfl⟩
abbrev main_c_11 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_v35 : Ref sig .tc := ⟨.hbm, 60, rfl⟩
abbrev main_v36 : Ref sig .tc := ⟨.hbm, 61, rfl⟩
abbrev main_c_12 : Ref sig .tc := ⟨.hbm, 62, rfl⟩
abbrev main_v37 : Ref sig .tc := ⟨.hbm, 63, rfl⟩
abbrev main_v38 : Ref sig .tc := ⟨.hbm, 64, rfl⟩
abbrev main_c_13 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_v43 : Ref sig .tc := ⟨.hbm, 73, rfl⟩
abbrev main_v44 : Ref sig .tc := ⟨.hbm, 74, rfl⟩
abbrev main_c_14 : Ref sig .tc := ⟨.hbm, 75, rfl⟩
abbrev main_v45 : Ref sig .tc := ⟨.hbm, 76, rfl⟩
abbrev main_v46 : Ref sig .tc := ⟨.hbm, 77, rfl⟩
abbrev main_c_15 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call4_c : Ref sig .tc := ⟨.hbm, 83, rfl⟩
abbrev main_call4_v0 : Ref sig .tc := ⟨.hbm, 84, rfl⟩
abbrev main_call4_v1 : Ref sig .tc := ⟨.hbm, 85, rfl⟩
abbrev main_v51 : Ref sig .tc := ⟨.hbm, 86, rfl⟩
abbrev main_v52 : Ref sig .tc := ⟨.hbm, 87, rfl⟩
abbrev main_c_16 : Ref sig .tc := ⟨.hbm, 88, rfl⟩
abbrev main_v53 : Ref sig .tc := ⟨.hbm, 89, rfl⟩
abbrev main_v54 : Ref sig .tc := ⟨.hbm, 90, rfl⟩
abbrev main_c_17 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_call5_c : Ref sig .tc := ⟨.hbm, 96, rfl⟩
abbrev main_call5_v0 : Ref sig .tc := ⟨.hbm, 97, rfl⟩
abbrev main_call5_v1 : Ref sig .tc := ⟨.hbm, 98, rfl⟩
abbrev main_v59 : Ref sig .tc := ⟨.hbm, 99, rfl⟩
abbrev main_v60 : Ref sig .tc := ⟨.hbm, 100, rfl⟩
abbrev main_c_18 : Ref sig .tc := ⟨.hbm, 101, rfl⟩
abbrev main_v61 : Ref sig .tc := ⟨.hbm, 102, rfl⟩
abbrev main_v62 : Ref sig .tc := ⟨.hbm, 103, rfl⟩
abbrev main_c_19 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_call6_c : Ref sig .tc := ⟨.hbm, 109, rfl⟩
abbrev main_call6_v0 : Ref sig .tc := ⟨.hbm, 110, rfl⟩
abbrev main_call6_v1 : Ref sig .tc := ⟨.hbm, 111, rfl⟩
abbrev main_v67 : Ref sig .tc := ⟨.hbm, 112, rfl⟩
abbrev main_v68 : Ref sig .tc := ⟨.hbm, 113, rfl⟩
abbrev main_c_20 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_c_21 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_c_22 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩

abbrev nD : Nat := 1
abbrev τ : Topo := Topo.v7x

variable {F : FTy → Type} [FloatOps F]
-- ==== Proof.Bytes.lean ====
/-
  How eight sign bits become a byte: the kernel's way, a product of 8-bit integers with a matrix of weights, and the
  reference's way, a sum of bits times powers of two. Nothing here mentions either program.
-/
module

public import Idealize.ShloMosaic.Lib.IntMxu
public import Idealize.ShloMosaic.Lib.MatmulPlain
public import Idealize.ShloMosaic.Lib.Pointwise
public import Mathlib.Data.BitVec
public import Mathlib.Logic.Equiv.Fin.Basic
public import Mathlib.Algebra.BigOperators.Fin

@[expose] public section

noncomputable section

namespace Cert.Proof

open Idealize.ShloMosaic

/-- The byte with bit `e` equal to `bit e`: the sum of the bits times the powers of two, modulo 256. -/
def byteOf (bit : Fin 8 → BitVec 1) : BitVec 8 := ∑ e : Fin 8, (bit e).setWidth 8 * BitVec.ofNat 8 (2 ^ (e : ℕ))

/-- The weight that column `q` of the packing matrix gives to row `s`: a power of two for the eight rows that belong to the
    column, zero for the others. -/
def weight (s q : ℕ) : BitVec 8 := if s / 8 = q then BitVec.ofNat 8 (2 ^ (s % 8)) else 0#8

/-- The word of an integer is the integer read in the ring of words. -/
theorem ofInt_eq_cast (w : ℕ) (z : ℤ) : BitVec.ofInt w z = (z : BitVec w) := rfl

/-- Cutting an integer's 32-bit word to its low byte gives the integer's byte. -/
theorem setWidth_ofInt (z : ℤ) : (BitVec.ofInt 32 z).setWidth 8 = BitVec.ofInt 8 z := by
  apply BitVec.eq_of_toNat_eq
  rw [BitVec.toNat_setWidth, BitVec.toNat_ofInt, BitVec.toNat_ofInt]
  omega

/-- The low byte of a sum of 32-bit words is the sum of the low bytes. -/
theorem setWidth_sum {n : ℕ} (f : Fin n → BitVec 32) : (∑ e, f e).setWidth 8 = ∑ e, (f e).setWidth 8 := by
  induction n with
  | zero => simp
  | succ n ih => rw [Fin.sum_univ_succ, Fin.sum_univ_succ, BitVec.setWidth_add _ _ (by decide), ih]

/-- Summing all rows with their weights in column `q` leaves the eight rows of that column, each with its power of two. -/
theorem sum_weight {n : ℕ} (f : Fin (n * 8) → BitVec 8) (q : Fin n) :
    ∑ s : Fin (n * 8), f s * weight s q
      = ∑ e : Fin 8, f ⟨(q : ℕ) * 8 + e, by omega⟩ * BitVec.ofNat 8 (2 ^ (e : ℕ)) := by
  rw [← Equiv.sum_comp finProdFinEquiv, Fintype.sum_prod_type, Finset.sum_eq_single q]
  · refine Finset.sum_congr rfl fun e _ => ?_
    have h1 : ((finProdFinEquiv (q, e) : Fin (n * 8)) : ℕ) = (e : ℕ) + 8 * (q : ℕ) := rfl
    have h2 : (finProdFinEquiv (q, e) : Fin (n * 8)) = ⟨(q : ℕ) * 8 + e, by omega⟩ := Fin.ext (by rw [h1]; simp only; omega)
    rw [h2]
    unfold weight
    rw [if_pos (by simp only; omega)]
    congr 3
    simp only
    omega
  · intro p _ hp
    refine Finset.sum_eq_zero fun e _ => ?_
    have h1 : ((finProdFinEquiv (p, e) : Fin (n * 8)) : ℕ) = (e : ℕ) + 8 * (p : ℕ) := rfl
    unfold weight
    rw [if_neg fun h => hp (Fin.ext (by omega)), BitVec.mul_zero]
    rfl
  · intro h
    exact absurd (Finset.mem_univ _) h

/-- The exact product of 8-bit integers, read at row `r` and column `q`. -/
theorem dotI8_plain {M K N : ℕ} (lhs : IVec ⟨2, ![M, K]⟩ 8) (rhs : IVec ⟨2, ![K, N]⟩ 8) (r : Fin M) (q : Fin N) :
    dotI8 (DotDims.plain M K N) lhs rhs (ix2 r q) = ∑ k : Fin K, (lhs (ix2 r k)).toInt * (rhs (ix2 k q)).toInt := by
  unfold dotI8
  rw [← Equiv.sum_comp (DotDims.plainContr M K N).symm]
  refine Finset.sum_congr rfl fun k _ => ?_
  have hk := ValueIdx.contrEquiv1_symm_val _ K (DotDims.plain_contr_rank M K N) (DotDims.plain_contr_size M K N) k
  have el : (DotDims.plain M K N).lhsIdx (ix2 r q) ((DotDims.plainContr M K N).symm k) = ix2 r k :=
    funext fun a => Fin.ext (by fin_cases a <;> first | rfl | exact hk)
  have er : (DotDims.plain M K N).rhsIdx (ix2 r q) ((DotDims.plainContr M K N).symm k) = ix2 k q :=
    funext fun a => Fin.ext (by fin_cases a <;> first | rfl | exact hk)
  rw [el, er]

/-- The kernel's way: with at most 1023 rows, the low byte of the 32-bit product of the sign bits by a matrix of weights is the
    byte of the eight bits that belong to the column. -/
theorem packed_product {M n : ℕ} (hn : n * 8 * 2 ^ 14 ≤ IntMxuNumerics.v7x.exactUpTo)
    (bits : IVec ⟨2, ![M, n * 8]⟩ 1) (w : IVec ⟨2, ![n * 8, n]⟩ 8) (r : Fin M) (q : Fin n)
    (hw : ∀ s : Fin (n * 8), w (ix2 s q) = weight s q)
    (hc : (DotDims.plain M (n * 8) n).contr.numel = n * 8) :
    (matmulI8 IntMxuNumerics.v7x (DotDims.plain M (n * 8) n) (extui 8 bits (by decide)) w (constantI ⟨2, ![M, n]⟩ 32 0#32)
        (ix2 r q)).setWidth 8
      = byteOf fun e => bits (ix2 r ⟨(q : ℕ) * 8 + e, by omega⟩) := by
  rw [matmulI8_exact_of_numel _ _ _ _ _ _ rfl (by rw [hc]; exact hn), setWidth_ofInt, dotI8_plain, ofInt_eq_cast, Int.cast_sum]
  unfold byteOf
  rw [← sum_weight (fun s => (bits (ix2 r s)).setWidth 8) q]
  refine Finset.sum_congr rfl fun s _ => ?_
  rw [Int.cast_mul, ← ofInt_eq_cast, ← ofInt_eq_cast, BitVec.ofInt_toInt, BitVec.ofInt_toInt, hw s]
  rfl

/-- The reference's way: the low byte of the 32-bit sum of the bits times the powers of two. -/
theorem packed_sum (bit : Fin 8 → BitVec 1) (p : Fin 8 → BitVec 32) (hp : ∀ e, p e = BitVec.ofNat 32 (2 ^ (e : ℕ))) :
    (∑ e : Fin 8, (bit e).setWidth 32 * p e).setWidth 8 = byteOf bit := by
  rw [setWidth_sum]
  refine Finset.sum_congr rfl fun e _ => ?_
  rw [hp e, BitVec.setWidth_mul _ _ (by decide)]
  congr 1
  · rw [BitVec.setWidth_setWidth_of_le _ (by decide)]
  · fin_cases e <;> rfl

end Cert.Proof

end
-- ==== Proof.Entry.lean ====
/-
  What the arrays that the kernel's grid reads hold when it starts: the arguments reshaped, the mask as a real number, and
  the two matrices of weights that the host lines build.
-/
module

public import proofs.«01_k».proof.Proof.Gen.KernelIdeal.Frame
public import proofs.«01_k».proof.Proof.Bytes
public import Idealize.ShloMosaic.Lib.Pipeline.ValueKit
public import Idealize.ShloMosaic.Lib.Claim

@[expose] public section

set_option maxRecDepth 16384

noncomputable section

namespace Cert.Proof

open Idealize.ShloMosaic Idealize.ShloMosaic.TcCoe Idealize.SL.Sem
open Cert.KernelIdeal Cert.KernelIdeal.Gen

/-- The host's floor division of a 32-bit word by 8, as it is printed: the truncating quotient, less one where the signs differ
    and the remainder is not zero. -/
def group (x : BitVec 32) : BitVec 32 :=
  Scalar.select
    (IntOp.andi
      (IntOp.cmpi .ne (if x = 0 then 0 else if x.msb = true then -1 else 1 : BitVec 32)
        (if (8#32 : BitVec 32) = 0 then 0 else if (8#32 : BitVec 32).msb = true then -1 else 1))
      (IntOp.cmpi .ne (IntOp.remsi .host x 8#32) 0#32))
    (IntOp.subi (IntOp.divsi .host x 8#32) 1#32) (IntOp.divsi .host x 8#32)

/-- The host's guarded divisor: 8, or 1 if 8 were zero. -/
def eight : BitVec 32 := Scalar.select (IntOp.cmpi .eq (8#32 : BitVec 32) 0#32) 1#32 8#32

/-- The host's remainder of a 32-bit word by 8, as it is printed: the truncating remainder, plus 8 where its sign is not the
    divisor's and it is not zero. -/
def place (x : BitVec 32) : BitVec 32 :=
  Scalar.select
    (IntOp.andi
      (IntOp.cmpi .ne (IntOp.cmpi .slt (IntOp.remsi .host x eight) 0#32) (IntOp.cmpi .slt eight 0#32))
      (IntOp.cmpi .ne (IntOp.remsi .host x eight) 0#32))
    (IntOp.addi (IntOp.remsi .host x eight) eight) (IntOp.remsi .host x eight)

/-- One entry of the host's matrix, as it is printed: 1 shifted to the row's place where the row belongs to the column, else 0,
    cut to a byte. -/
def packWord (x y : BitVec 32) : BitVec 8 :=
  (Scalar.select (IntOp.cmpi .eq (group x) y) (IntOp.shli .host 1#32 (place x)) 0#32).setWidth 8

/-- Every entry of the host's matrix is the weight of its row in its column. -/
theorem packWord_eq : ∀ (s : Fin 256) (q : Fin 32), packWord (BitVec.ofNat 32 s) (BitVec.ofNat 32 q) = weight s q := by
  decide +kernel

variable (m : (ℓ : Loc nD τ sig) → Buf (Elt Ideal) ℓ)

/-- The matrix of weights the host builds, read at row `s` and column `q`. -/
theorem pack_entry (c : Dev nD) (s : Fin 256) (q : Fin 32) : V (F := Ideal) m c main_v17 (ix2 s q) = weight s q := by
  simp only [V, V0, hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp
  simp only [id_eq]
  pointwise
  exact packWord_eq s q

/-- The matrix of weights for the outlier bytes, cut from the one before, read at row `s` and column `q`. -/
theorem pack_out_entry (c : Dev nD) (s : Fin 128) (q : Fin 16) : V (F := Ideal) m c main_v18 (ix2 s q) = weight s q := by
  simp only [V, V0, hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp
  simp only [id_eq]
  pointwise
  exact packWord_eq ⟨s, by omega⟩ ⟨q, by omega⟩

/-- The keys as the grid reads them: heads `(h, p)` of the argument numbered `32 h + p`. -/
theorem keys_entry (c : Dev nD) (g : Fin 1024) (b k : Fin 128) : V (F := Ideal) m c main_v0 (ix3 g b k)
    = m ((c : Thread nD τ).loc main_arg0)
        (ix5 0 (⟨(g : ℕ) / 32, by omega⟩ : Fin 32) (⟨(g : ℕ) % 32, by omega⟩ : Fin 32) b k) := by
  simp only [V, V0, hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp
  pointwise

/-- The mask as the grid reads it: the argument's integers as real numbers, heads numbered as for the keys. -/
theorem mask_entry (c : Dev nD) (g : Fin 1024) (k : Fin 128) : V (F := Ideal) m c main_v2 (ix3 g 0 k)
    = FloatOps.sitofp (F := Ideal) .f32 (m ((c : Thread nD τ).loc main_arg1)
        (ix4 0 (⟨(g : ℕ) / 32, by omega⟩ : Fin 32) (⟨(g : ℕ) % 32, by omega⟩ : Fin 32) k)) := by
  simp only [V, V0, hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp
  pointwise

/-- The projection rows that the outlier bytes use: the first 128 rows of the argument. -/
theorem low_entry (c : Dev nD) (r k : Fin 128) : V (F := Ideal) m c main_v3 (ix2 r k)
    = m ((c : Thread nD τ).loc main_arg2) (ix2 (⟨r, by omega⟩ : Fin 256) k) := by
  simp only [V, V0, hostOps0, hostOps0_1, hostOps0_2, hostOps0_3, hostOps0_4, hostOps0_5, hostOps0_6, List.flatten_cons,
    List.flatten_nil, List.append_nil, List.cons_append, List.nil_append, StableHlo.TRef.binary, StableHlo.TRef.nullary,
    StableHlo.TRef.ternary, StableHlo.TRef.unary, StableHlo.TRef.toBuf, StableHlo.TRef.ofBuf, cast_eq]
  after_results_simp
  pointwise

end Cert.Proof

end
-- ==== Proof.Block.lean ====
/-
  What one grid point computes: the two blocks of bytes that the kernel's body stores, read at an index, from the blocks
  of keys, mask and projection it reads and from a matrix of weights for each result.
-/
module

public import proofs.«01_k».proof.Proof.Gen.KernelIdeal.Skeleton
public import proofs.«01_k».proof.Proof.Bytes
public import Idealize.ShloMosaic.Lib.Pointwise

@[expose] public section

set_option maxRecDepth 16384

noncomputable section

namespace Cert.Proof

open Idealize.ShloMosaic Idealize.ShloMosaic.TcCoe Idealize.SL.Sem
open Cert.KernelIdeal Cert.KernelIdeal.Gen

/-- The sign bit of an inner product: 1 where `∑ u k · v k` is positive, else 0. -/
def signBit (u v : Fin 128 → EReal) : BitVec 1 := Ideal.cmp .ogt (∑ k : Fin 128, u k * v k) 0

/-- The body reads the block of keys as it stands. -/
theorem keys_apply (x : FVec Ideal S128x128x128 .f32) (r b k : Fin 128) :
    k0_pay1 (F := Ideal) x (ix3 r b k) = x (ix3 r b k) := by
  pointwise [k0_pay1]

/-- The masked keys, flattened to rows: row `r * 128 + b` is key `b` of head `r` times the head's mask. -/
theorem masked_apply (x : FVec Ideal S128x128x128 .f32) (μ : FVec Ideal S128x1x128 .f32) (r b k : Fin 128) :
    k0_pay2 (F := Ideal) x μ (ix2 (⟨(r : ℕ) * 128 + b, by omega⟩ : Fin 16384) k) = x (ix3 r b k) * μ (ix3 r 0 k) := by
  have h1 : ((r : ℕ) * 128 + b) / 128 = r := by omega
  have h2 : ((r : ℕ) * 128 + b) % 128 = b := by omega
  pointwise [k0_pay2, k0_pay1]

/-- The stored block of inlier bytes at `(r, b, q)`: the signs of the unmasked part of key `b` of head `r` along the eight
    projection rows `8 q … 8 q + 7`. -/
theorem inlier_block (x : FVec Ideal S128x128x128 .f32) (μ : FVec Ideal S128x1x128 .f32) (P : FVec Ideal S256x128 .f32)
    (w : IVec S256x32 8) (hw : ∀ (s : Fin 256) (q : Fin 32), w (ix2 s q) = weight s q) (r b : Fin 128) (q : Fin 32) :
    k0_pay3 (F := Ideal) x μ P w (ix3 r b q)
      = byteOf fun e => signBit (fun k => x (ix3 r b k) - x (ix3 r b k) * μ (ix3 r 0 k))
          (fun k => P (ix2 (⟨(q : ℕ) * 8 + e, by omega⟩ : Fin 256) k)) := by
  pointwise [k0_pay3]
  refine (packed_product (M := 16384) (n := 32) (by decide) _ w _ q (fun s => hw s q) (by decide)).trans ?_
  refine congrArg byteOf (funext fun e => ?_)
  have hm := masked_apply x μ r b
  have hk := keys_apply x r b
  pointwise [signBit]
  refine congrArg (fun z => Ideal.cmp .ogt z 0) (Finset.sum_congr rfl fun k _ => ?_)
  rw [hk k, hm k]

/-- The stored block of outlier bytes at `(r, b, q)`: the signs of the masked part of key `b` of head `r` along the eight
    projection rows `8 q … 8 q + 7`. -/
theorem outlier_block (x : FVec Ideal S128x128x128 .f32) (μ : FVec Ideal S128x1x128 .f32) (P : FVec Ideal S128x128 .f32)
    (w : IVec S128x16 8) (hw : ∀ (s : Fin 128) (q : Fin 16), w (ix2 s q) = weight s q) (r b : Fin 128) (q : Fin 16) :
    k0_pay4 (F := Ideal) x μ P w (ix3 r b q)
      = byteOf fun e => signBit (fun k => x (ix3 r b k) * μ (ix3 r 0 k))
          (fun k => P (ix2 (⟨(q : ℕ) * 8 + e, by omega⟩ : Fin 128) k)) := by
  pointwise [k0_pay4]
  refine (packed_product (M := 16384) (n := 16) (by decide) _ w _ q (fun s => hw s q) (by decide)).trans ?_
  refine congrArg byteOf (funext fun e => ?_)
  have hm := masked_apply x μ r b
  pointwise [signBit]
  refine congrArg (fun z => Ideal.cmp .ogt z 0) (Finset.sum_congr rfl fun k _ => ?_)
  rw [hm k]

end Cert.Proof

end
-- ==== Proof.KernelValue.lean ====
/-
  What the two arrays of bytes hold after the kernel's grid has run: every byte, from the arguments as launched.
-/
module

public import proofs.«01_k».proof.Proof.Entry
public import proofs.«01_k».proof.Proof.Block

@[expose] public section

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

/-- The keys of head `g` of 1024, key `b`, as a vector. -/
def keyOf (X : FVec Ideal S1x32x32x128x128 .f32) (g : Fin 1024) (b k : Fin 128) : EReal :=
  X (ix5 0 (⟨(g : ℕ) / 32, by omega⟩ : Fin 32) (⟨(g : ℕ) % 32, by omega⟩ : Fin 32) b k)

/-- The mask of head `g` of 1024, as a vector of real numbers. -/
def maskOf (M : IVec S1x32x32x128 32) (g : Fin 1024) (k : Fin 128) : EReal :=
  FloatOps.sitofp (F := Ideal) .f32 (M (ix4 0 (⟨(g : ℕ) / 32, by omega⟩ : Fin 32) (⟨(g : ℕ) % 32, by omega⟩ : Fin 32) k))

/-- The kernel's inlier bytes: byte `q` of key `b` of head `g` holds the signs of the key less its masked part along the
    projection rows `8 q … 8 q + 7`. -/
def inlierBytes (X : FVec Ideal S1x32x32x128x128 .f32) (M : IVec S1x32x32x128 32) (P : FVec Ideal S256x128 .f32)
    (g : Fin 1024) (b : Fin 128) (q : Fin 32) : BitVec 8 :=
  byteOf fun e => signBit (fun k => keyOf X g b k - keyOf X g b k * maskOf M g k)
    (fun k => P (ix2 (⟨(q : ℕ) * 8 + e, by omega⟩ : Fin 256) k))

/-- The kernel's outlier bytes: byte `q` of key `b` of head `g` holds the signs of the key's masked part along the
    projection rows `8 q … 8 q + 7`. -/
def outlierBytes (X : FVec Ideal S1x32x32x128x128 .f32) (M : IVec S1x32x32x128 32) (P : FVec Ideal S256x128 .f32)
    (g : Fin 1024) (b : Fin 128) (q : Fin 16) : BitVec 8 :=
  byteOf fun e => signBit (fun k => keyOf X g b k * maskOf M g k)
    (fun k => P (ix2 (⟨(q : ℕ) * 8 + e, by omega⟩ : Fin 256) k))

variable (m : (ℓ : Loc nD τ sig) → Buf (Elt Ideal) ℓ)

/-- Which block each window takes at a grid point: keys, masks and the two results go by heads, the rest is whole. -/
theorem idx : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![t.val, 0, 0]
    ∧ win0_7.index t = ![t.val, 0, 0] := (by decide +kernel : ∀ t : Fin grid0.N, _)

/-- The keys at a grid point: the heads `128 t … 128 t + 127`. -/
theorem blk0 (c : Dev nD) (t : Fin cfg0.N) (r b k : Fin 128) (g : Fin 1024) (hg : (g : ℕ) = t.val * 128 + r) :
    iblk (F := Ideal) m c 0 t (ix3 r b k) = V (F := Ideal) m c main_v0 (ix3 g b k) := by
  blk_ext [iblk, idx t]
/-- The masks at a grid point: those of the same heads. -/
theorem blk1 (c : Dev nD) (t : Fin cfg0.N) (r k : Fin 128) (g : Fin 1024) (hg : (g : ℕ) = t.val * 128 + r) :
    iblk (F := Ideal) m c 1 t (ix3 r 0 k) = V (F := Ideal) m c main_v2 (ix3 g 0 k) := by
  blk_ext [iblk, idx t]
/-- The projection at a grid point: the whole argument. -/
theorem blk2 (c : Dev nD) (t : Fin cfg0.N) (s : Fin 256) (k : Fin 128) :
    iblk (F := Ideal) m c 2 t (ix2 s k) = m ((c : Thread nD τ).loc main_arg2) (ix2 s k) := by
  blk_ext [iblk, V, idx t]
/-- The outlier projection rows at a grid point: the whole array. -/
theorem blk3 (c : Dev nD) (t : Fin cfg0.N) (s k : Fin 128) :
    iblk (F := Ideal) m c 3 t (ix2 s k) = V (F := Ideal) m c main_v3 (ix2 s k) := by
  blk_ext [iblk, idx t]
/-- The inlier weights at a grid point: the whole matrix. -/
theorem blk4 (c : Dev nD) (t : Fin cfg0.N) (s : Fin 256) (q : Fin 32) :
    iblk (F := Ideal) m c 4 t (ix2 s q) = V (F := Ideal) m c main_v17 (ix2 s q) := by
  blk_ext [iblk, idx t]
/-- The outlier weights at a grid point: the whole matrix. -/
theorem blk5 (c : Dev nD) (t : Fin cfg0.N) (s : Fin 128) (q : Fin 16) :
    iblk (F := Ideal) m c 5 t (ix2 s q) = V (F := Ideal) m c main_v18 (ix2 s q) := by
  blk_ext [iblk, idx t]

/-- After the run the first array holds the inlier bytes. -/
theorem final_inlier (c : Dev nD) : (dats (F := Ideal) m 0 c).arrAt 6 (cfgs 0).N
    = fun i : S1024x128x32.Idx => inlierBytes (m ((c : Thread nD τ).loc main_arg0)) (m ((c : Thread nD τ).loc main_arg1))
        (m ((c : Thread nD τ).loc main_arg2)) (i 0) (i 1) (i 2) := by
  refine (dats (F := Ideal) m 0 c).arrAt_eq_of_covers 6 _ (by decide +kernel) fun t _ y => ?_
  blk_simp
  rw [after0_6]
  frame_out
  have ht : t.val < 8 := t.isLt
  obtain ⟨r, b, q, rfl⟩ : ∃ (r b : Fin 128) (q : Fin 32), y = ix3 r b q := ⟨y 0, y 1, y 2, eq_ix3 y⟩
  have hg : t.val * 128 + (r : ℕ) < 1024 := by omega
  have e0 : ((View.whole main_v19_0).slice (win0_6.rect t)).emb (ix3 r b q) 0 = (⟨t.val * 128 + r, hg⟩ : Fin 1024) :=
    Fin.ext (by blk_simp [idx t])
  have e1 : ((View.whole main_v19_0).slice (win0_6.rect t)).emb (ix3 r b q) 1 = b := Fin.ext (by blk_simp [idx t])
  have e2 : ((View.whole main_v19_0).slice (win0_6.rect t)).emb (ix3 r b q) 2 = q := Fin.ext (by blk_simp [idx t])
  rw [e0, e1, e2]
  refine (inlier_block _ _ _ _ (fun s q => (blk4 m c t s q).trans (pack_entry m c s q)) r b q).trans ?_
  unfold inlierBytes
  refine congrArg byteOf (funext fun e => congrArg₂ signBit (funext fun k => ?_) (funext fun k => ?_))
  · rw [blk0 m c t r b k ⟨_, hg⟩ rfl, blk1 m c t r k ⟨_, hg⟩ rfl, keys_entry, mask_entry]
    rfl
  · exact blk2 m c t _ k

/-- After the run the second array holds the outlier bytes. -/
theorem final_outlier (c : Dev nD) : (dats (F := Ideal) m 0 c).arrAt 7 (cfgs 0).N
    = fun i : S1024x128x16.Idx => outlierBytes (m ((c : Thread nD τ).loc main_arg0)) (m ((c : Thread nD τ).loc main_arg1))
        (m ((c : Thread nD τ).loc main_arg2)) (i 0) (i 1) (i 2) := by
  refine (dats (F := Ideal) m 0 c).arrAt_eq_of_covers 7 _ (by decide +kernel) fun t _ y => ?_
  blk_simp
  rw [after0_7]
  frame_out
  have ht : t.val < 8 := t.isLt
  obtain ⟨r, b, q, rfl⟩ : ∃ (r b : Fin 128) (q : Fin 16), y = ix3 r b q := ⟨y 0, y 1, y 2, eq_ix3 y⟩
  have hg : t.val * 128 + (r : ℕ) < 1024 := by omega
  have e0 : ((View.whole main_v19_1).slice (win0_7.rect t)).emb (ix3 r b q) 0 = (⟨t.val * 128 + r, hg⟩ : Fin 1024) :=
    Fin.ext (by blk_simp [idx t])
  have e1 : ((View.whole main_v19_1).slice (win0_7.rect t)).emb (ix3 r b q) 1 = b := Fin.ext (by blk_simp [idx t])
  have e2 : ((View.whole main_v19_1).slice (win0_7.rect t)).emb (ix3 r b q) 2 = q := Fin.ext (by blk_simp [idx t])
  rw [e0, e1, e2]
  refine (outlier_block _ _ _ _ (fun s q => (blk5 m c t s q).trans (pack_out_entry m c s q)) r b q).trans ?_
  unfold outlierBytes
  refine congrArg byteOf (funext fun e => congrArg₂ signBit (funext fun k => ?_) (funext fun k => ?_))
  · rw [blk0 m c t r b k ⟨_, hg⟩ rfl, blk1 m c t r k ⟨_, hg⟩ rfl, keys_entry, mask_entry]
    rfl
  · exact (blk3 m c t _ k).trans (low_entry m c _ k)

end Cert.Proof

end
-- ==== Proof.KernelRun.lean ====
/-
  The kernel's run with its two results: the bytes of the grid, given the shape the caller asked for.
-/
module

public import proofs.«01_k».proof.Proof.KernelValue

@[expose] public section

set_option maxRecDepth 16384

noncomputable section

namespace Cert.Proof

open Idealize.ShloMosaic Idealize.ShloMosaic.TcCoe Idealize.SL.Sem
open Cert.KernelIdeal Cert.KernelIdeal.Gen

/-- The number, of 1024, of the head `(h, p)`. -/
def headOf (h p : Fin 32) : Fin 1024 := ⟨(h : ℕ) * 32 + p, by omega⟩

variable (m : (ℓ : Loc nD τ sig) → Buf (Elt Ideal) ℓ) (ρ : Dev nD → PrngReg)

/-- The eight arrays of the grid are eight different arrays. -/
theorem arrays_distinct : Function.Injective (Pipeline.arrRef (cfgs 0).spec) :=
  (by decide : Function.Injective (Pipeline.arrRef spec0))

/-- The kernel's run: the two results are the inlier and the outlier bytes, heads `(h, p)` being head `32 h + p` of the grid, and
    the arguments end unchanged. -/
theorem kernel_run : θ_run (defs (F := Ideal)) (onTc (τ := τ) (main (F := Ideal))) ⟨m, fun _ => 0, ρ⟩ (fun r => ∀ c : Dev nD,
    r.2.mem ((c.tc : Thread nD τ).loc main_v20) = (fun i : S1x32x32x128x32.Idx =>
        inlierBytes (m ((c : Thread nD τ).loc main_arg0)) (m ((c : Thread nD τ).loc main_arg1))
          (m ((c : Thread nD τ).loc main_arg2)) (headOf (i 1) (i 2)) (i 3) (i 4))
    ∧ r.2.mem ((c.tc : Thread nD τ).loc main_v21) = (fun i : S1x32x32x128x16.Idx =>
        outlierBytes (m ((c : Thread nD τ).loc main_arg0)) (m ((c : Thread nD τ).loc main_arg1))
          (m ((c : Thread nD τ).loc main_arg2)) (headOf (i 1) (i 2)) (i 3) (i 4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  run_from run_main (F := Ideal) m ρ
  · unfold Pipeline.afterTail₀
    simp only [hostOps1, List.flatten_cons, List.flatten_nil, List.append_nil]
    after_results_simp
    have h := (Pipeline.withArrays_arr (cfgs 0).spec arrays_distinct c (V0 (F := Ideal) m c)
      (fun w => (dats (F := Ideal) m 0 c).arrAt w (cfgs 0).N) 6).trans (final_inlier m c)
    funext i
    refine (congrFun (congrArg (fun v => shapeCast S1x32x32x128x32 v _) h) i).trans ?_
    idx_vars i
    pointwise
    rfl
  · unfold Pipeline.afterTail₀
    simp only [hostOps1, List.flatten_cons, List.flatten_nil, List.append_nil]
    after_results_simp
    have h := (Pipeline.withArrays_arr (cfgs 0).spec arrays_distinct c (V0 (F := Ideal) m c)
      (fun w => (dats (F := Ideal) m 0 c).arrAt w (cfgs 0).N) 7).trans (final_outlier m c)
    funext i
    refine (congrFun (congrArg (fun v => shapeCast S1x32x32x128x16 v _) h) i).trans ?_
    idx_vars i
    pointwise
    rfl
  · exact W_main_arg0 m (dats m) c
  · exact W_main_arg1 m (dats m) c

end Cert.Proof

end
-- ==== Proof.RefValue.lean ====
/-
  What the reference computes, byte by byte: its composed terms read at an index.
-/
module

public import proofs.«01_k».proof.Proof.Gen.ReferenceIdeal.Run
public import proofs.«01_k».proof.Proof.Bytes
public import Idealize.ShloMosaic.Lib.Pointwise
public import Idealize.ShloMosaic.Lib.Tactic.CleanTypes

@[expose] public section

set_option maxRecDepth 16384

noncomputable section

namespace Cert.Proof.Ref

open Idealize.ShloMosaic Idealize.ShloMosaic.TcCoe Idealize.SL.Sem
open Cert.ReferenceIdeal Cert.ReferenceIdeal.Gen Cert.ReferenceIdeal.Value

variable (m : (ℓ : Loc nD τ sig) → Buf (Elt Ideal) ℓ)

/-- The sign bits of an array of inner products in groups of eight, each times its power of two. -/
def terms (s : FVec Ideal S1x32x32x128x256 .f32) (p : IVec S8 8) : IVec S1x32x32x128x32x8 32 :=
  muli
    (extui 32 (extui 8 (cmpf .ogt (shapeCast S1x32x32x128x32x8 s shapeCasts_S1x32x32x128x256_S1x32x32x128x32x8)
      (broadcastInDim S1x32x32x128x32x8 ![] bcast_S_S1x32x32x128x32x8 (constant S_ .f32 0x00000000#32))) natLt_1_8) natLt_8_32)
    (broadcastInDim S1x32x32x128x32x8 ![0, 1, 2, 3, 4, 5] bcast_S1x1x1x1x1x8_S1x32x32x128x32x8_0_1_2_3_4_5
      (broadcastInDim S1x1x1x1x1x8 ![2, 3, 4, 5] bcast_S1x1x1x8_S1x1x1x1x1x8_2_3_4_5
        (extui 32 (shapeCast S1x1x1x8 p shapeCasts_S8_S1x1x1x8) natLt_8_32)))

/-- The reference's bytes: the terms summed over each group of eight and cut to a byte. -/
def packed (s : FVec Ideal S1x32x32x128x256 .f32) (p : IVec S8 8) : IVec S1x32x32x128x32 8 :=
  trunci 8 (Host.reduce IntOp.addi (terms s p) (constantI S_ 32 0#32) reducesTo_S1x32x32x128x32x8_S1x32x32x128x32_d5 h_S_) natLt_8_32

/-- The inner products of keys scaled by a mask with every projection row. -/
def scores (X : FVec Ideal S1x32x32x128x128 .f32) (M : FVec Ideal S1x32x32x1x128 .f32) (P : FVec Ideal S256x128 .f32) :
    FVec Ideal S1x32x32x128x256 .f32 :=
  Host.dotGeneral dot_S1x32x32x128x128_S256x128_S1x32x32x128x256_4_1_0123_0_n_n none
    (mulf X (broadcastInDim S1x32x32x128x128 ![0, 1, 2, 3, 4] bcast_S1x32x32x1x128_S1x32x32x128x128_0_1_2_3_4 M)) P

/-- A sum over the last of six axes, at an index: the sum of the eight entries there. -/
theorem reduce_last (x : IVec S1x32x32x128x32x8 32) (h a : Fin 32) (b : Fin 128) (q : Fin 32) :
    Host.reduce IntOp.addi x (constantI S_ 32 0#32) reducesTo_S1x32x32x128x32x8_S1x32x32x128x32_d5 h_S_ (ix5 0 h a b q)
      = ∑ e : Fin 8, x (ix6 0 h a b q e) := by
  have hr : S1x32x32x128x32x8.Reduces [5] S1x32x32x128x32 := by decide
  have hl : ∀ e : Fin 8, hr.lift (ix5 0 h a b q) e = ix6 0 h a b q e := fun e => by
    rw [eq_ix6 (hr.lift (ix5 0 h a b q) e)]
    rfl
  refine (Host.reduce_eq_fold_single IntOp.addi x _ _ hr h_S_ _).trans ?_
  exact Finset.sum_congr rfl fun e _ => congrArg x (hl e)

/-- A term at an index: the sign bit of an inner product times the power. -/
theorem terms_apply (s : FVec Ideal S1x32x32x128x256 .f32) (p : IVec S8 8) (h a : Fin 32) (b : Fin 128) (q : Fin 32) (e : Fin 8) :
    terms s p (ix6 0 h a b q e) = (Ideal.cmp .ogt (s (ix5 0 h a b (⟨(q : ℕ) * 8 + e, by omega⟩ : Fin 256))) 0).setWidth 32
      * (p (ix1 e)).setWidth 32 := by
  have hw : ∀ v : BitVec 1, (v.setWidth 8).setWidth 32 = v.setWidth 32 := by decide
  rw [← hw]
  pointwise [terms]
  rfl

/-- The reference's bytes at an index: the signs of the eight inner products of the byte. -/
theorem packed_apply (s : FVec Ideal S1x32x32x128x256 .f32) (p : IVec S8 8)
    (hp : ∀ e : Fin 8, p (ix1 e) = BitVec.ofNat 8 (2 ^ (e : ℕ))) (h a : Fin 32) (b : Fin 128) (q : Fin 32) :
    packed s p (ix5 0 h a b q)
      = byteOf fun e => Ideal.cmp .ogt (s (ix5 0 h a b (⟨(q : ℕ) * 8 + e, by omega⟩ : Fin 256))) 0 := by
  rw [← packed_sum _ (fun e => (p (ix1 e)).setWidth 32) fun e => by rw [hp e]; fin_cases e <;> rfl]
  refine (congrArg (BitVec.setWidth 8) (reduce_last (terms s p) h a b q)).trans ?_
  simp only [terms_apply]

/-- The first sixteen bytes of an array at an index. -/
theorem first_sixteen (v : IVec S1x32x32x128x32 8) (h a : Fin 32) (b : Fin 128) (q : Fin 16) :
    extractStridedSlice S1x32x32x128x16 ![0, 0, 0, 0, 0] v slices_S1x32x32x128x32_S1x32x32x128x16_0_0_0_0_0 (ix5 0 h a b q)
      = v (ix5 0 h a b (⟨(q : ℕ), by omega⟩ : Fin 32)) := by
  pointwise

/-- The inner products at an index. -/
theorem scores_apply (X : FVec Ideal S1x32x32x128x128 .f32) (M : FVec Ideal S1x32x32x1x128 .f32) (P : FVec Ideal S256x128 .f32)
    (h a : Fin 32) (b : Fin 128) (r : Fin 256) :
    scores X M P (ix5 0 h a b r) = ∑ k : Fin 128, (X (ix5 0 h a b k) * M (ix5 0 h a 0 k)) * P (ix2 r k) := by
  pointwise [scores]

/-- The mask as real numbers, with an axis of length one for the keys. -/
def maskVec (M : IVec S1x32x32x128 32) : FVec Ideal S1x32x32x1x128 .f32 :=
  broadcastInDim S1x32x32x1x128 ![0, 1, 2, 4] bcast_S1x32x32x128_S1x32x32x1x128_0_1_2_4 (sitofp .f32 M)

/-- One minus the mask. -/
def restVec (M : IVec S1x32x32x128 32) : FVec Ideal S1x32x32x1x128 .f32 :=
  subf (broadcastInDim S1x32x32x1x128 ![] bcast_S_S1x32x32x1x128 (constant S_ .f32 0x3F800000#32)) (maskVec M)

/-- The mask vector at an index. -/
theorem maskVec_apply (M : IVec S1x32x32x128 32) (h a : Fin 32) (k : Fin 128) :
    maskVec M (ix5 0 h a 0 k) = FloatOps.sitofp (F := Ideal) .f32 (M (ix4 0 h a k)) := by
  pointwise [maskVec]

/-- One minus the mask at an index. -/
theorem restVec_apply (M : IVec S1x32x32x128 32) (h a : Fin 32) (k : Fin 128) :
    restVec M (ix5 0 h a 0 k) = 1 - FloatOps.sitofp (F := Ideal) .f32 (M (ix4 0 h a k)) := by
  pointwise [restVec, maskVec]

set_option maxRecDepth 65536 in
/-- The first result is the packed signs of the inlier scores, the powers being those of two. -/
theorem out0_eq (c : Dev nD) : ∃ p : IVec S8 8, (∀ e : Fin 8, p (ix1 e) = BitVec.ofNat 8 (2 ^ (e : ℕ)))
    ∧ res_out0 (F := Ideal) m c = packed (scores (m ((c.tc : Thread nD τ).loc main_arg0))
      (restVec (m ((c.tc : Thread nD τ).loc main_arg1))) (m ((c.tc : Thread nD τ).loc main_arg2))) p := by
  refine ⟨_, ?_, by unfold res_out0 res_main_v88 packed terms scores restVec maskVec; rfl⟩
  decide +kernel

set_option maxRecDepth 65536 in
/-- The second result is the first sixteen bytes of the packed signs of the outlier scores. -/
theorem out1_eq (c : Dev nD) : ∃ p : IVec S8 8, (∀ e : Fin 8, p (ix1 e) = BitVec.ofNat 8 (2 ^ (e : ℕ)))
    ∧ res_out1 (F := Ideal) m c = extractStridedSlice S1x32x32x128x16 ![0, 0, 0, 0, 0]
      (packed (scores (m ((c.tc : Thread nD τ).loc main_arg0)) (maskVec (m ((c.tc : Thread nD τ).loc main_arg1)))
        (m ((c.tc : Thread nD τ).loc main_arg2))) p) slices_S1x32x32x128x32_S1x32x32x128x16_0_0_0_0_0 := by
  refine ⟨_, ?_, by unfold res_out1 res_main_v89 packed terms scores maskVec; rfl⟩
  decide +kernel

/-- The reference's inlier bytes: byte `q` of key `b` of head `(h, a)` holds the signs of the key times one minus its mask along
    the projection rows `8 q … 8 q + 7`. -/
def inlierRef (X : FVec Ideal S1x32x32x128x128 .f32) (M : IVec S1x32x32x128 32) (P : FVec Ideal S256x128 .f32)
    (h a : Fin 32) (b : Fin 128) (q : Fin 32) : BitVec 8 :=
  byteOf fun e => Ideal.cmp .ogt (∑ k : Fin 128, (X (ix5 0 h a b k) * (1 - FloatOps.sitofp (F := Ideal) .f32 (M (ix4 0 h a k))))
    * P (ix2 (⟨(q : ℕ) * 8 + e, by omega⟩ : Fin 256) k) : EReal) 0

/-- The reference's outlier bytes: the same of the key times its mask. -/
def outlierRef (X : FVec Ideal S1x32x32x128x128 .f32) (M : IVec S1x32x32x128 32) (P : FVec Ideal S256x128 .f32)
    (h a : Fin 32) (b : Fin 128) (q : Fin 16) : BitVec 8 :=
  byteOf fun e => Ideal.cmp .ogt (∑ k : Fin 128, (X (ix5 0 h a b k) * FloatOps.sitofp (F := Ideal) .f32 (M (ix4 0 h a k)))
    * P (ix2 (⟨(q : ℕ) * 8 + e, by omega⟩ : Fin 256) k) : EReal) 0

/-- The reference's first result at an index. -/
theorem out0_apply (c : Dev nD) (h a : Fin 32) (b : Fin 128) (q : Fin 32) :
    res_out0 (F := Ideal) m c (ix5 0 h a b q) = inlierRef (m ((c.tc : Thread nD τ).loc main_arg0))
      (m ((c.tc : Thread nD τ).loc main_arg1)) (m ((c.tc : Thread nD τ).loc main_arg2)) h a b q := by
  obtain ⟨p, hp, hv⟩ := out0_eq m c
  rw [hv, packed_apply _ p hp]
  simp only [scores_apply, restVec_apply]
  rfl

/-- The reference's second result at an index. -/
theorem out1_apply (c : Dev nD) (h a : Fin 32) (b : Fin 128) (q : Fin 16) :
    res_out1 (F := Ideal) m c (ix5 0 h a b q) = outlierRef (m ((c.tc : Thread nD τ).loc main_arg0))
      (m ((c.tc : Thread nD τ).loc main_arg1)) (m ((c.tc : Thread nD τ).loc main_arg2)) h a b q := by
  obtain ⟨p, hp, hv⟩ := out1_eq m c
  rw [hv, first_sixteen, packed_apply _ p hp]
  simp only [scores_apply, maskVec_apply]
  rfl

/-- The reference's first result is its array of inlier bytes. -/
theorem out0_value (c : Dev nD) : res_out0 (F := Ideal) m c = fun i : S1x32x32x128x32.Idx =>
    inlierRef (m ((c.tc : Thread nD τ).loc main_arg0)) (m ((c.tc : Thread nD τ).loc main_arg1))
      (m ((c.tc : Thread nD τ).loc main_arg2)) (i 1) (i 2) (i 3) (i 4) := by
  funext i
  obtain ⟨z, h, a, b, q, rfl⟩ : ∃ (z : Fin 1) (h a : Fin 32) (b : Fin 128) (q : Fin 32), i = ix5 z h a b q :=
    ⟨_, _, _, _, _, eq_ix5 i⟩
  obtain rfl : z = 0 := Subsingleton.elim _ _
  exact out0_apply m c h a b q

/-- The reference's second result is its array of outlier bytes. -/
theorem out1_value (c : Dev nD) : res_out1 (F := Ideal) m c = fun i : S1x32x32x128x16.Idx =>
    outlierRef (m ((c.tc : Thread nD τ).loc main_arg0)) (m ((c.tc : Thread nD τ).loc main_arg1))
      (m ((c.tc : Thread nD τ).loc main_arg2)) (i 1) (i 2) (i 3) (i 4) := by
  funext i
  obtain ⟨z, h, a, b, q, rfl⟩ : ∃ (z : Fin 1) (h a : Fin 32) (b : Fin 128) (q : Fin 16), i = ix5 z h a b q :=
    ⟨_, _, _, _, _, eq_ix5 i⟩
  obtain rfl : z = 0 := Subsingleton.elim _ _
  exact out1_apply m c h a b q

end Cert.Proof.Ref

end
-- ==== Proof.Equation.lean ====
/-
  The equation of the two programs, byte by byte: a finite key less its masked part is the key times one minus its mask.
-/
module

public import proofs.«01_k».proof.Proof.KernelRun
public import proofs.«01_k».proof.Proof.RefValue
public import proofs.«01_k».proof.Defs
public import proofs.«01_k».proof.Proof.Gen.Pre_finite_data

@[expose] public section

set_option maxRecDepth 16384

noncomputable section

namespace Cert.Proof

open Idealize.ShloMosaic Idealize.ShloMosaic.TcCoe Idealize.SL.Sem
open Cert.KernelIdeal Cert.KernelIdeal.Gen

/-- A finite extended real less its product with a real number is its product with one minus that number. -/
theorem sub_mul_eq (x : EReal) (r : ℝ) (hx : max x (-x) < ⊤) : x - x * (r : EReal) = x * (1 - (r : EReal)) := by
  induction x with
  | bot => simp at hx
  | top => simp at hx
  | coe y =>
    rw [← EReal.coe_one, ← EReal.coe_mul, ← EReal.coe_sub, ← EReal.coe_sub, ← EReal.coe_mul]
    congr 1
    ring

/-- The quotient and the remainder of head `(h, p)`'s number are `h` and `p`. -/
theorem keyOf_head (X : FVec Ideal S1x32x32x128x128 .f32) (h p : Fin 32) (b k : Fin 128) :
    keyOf X (headOf h p) b k = X (ix5 0 h p b k) := by
  unfold keyOf headOf
  congr 2 <;> apply Fin.ext <;> simp only <;> omega

/-- The mask of head `(h, p)`. -/
theorem maskOf_head (M : IVec S1x32x32x128 32) (h p : Fin 32) (k : Fin 128) :
    maskOf M (headOf h p) k = FloatOps.sitofp (F := Ideal) .f32 (M (ix4 0 h p k)) := by
  unfold maskOf headOf
  congr 3 <;> apply Fin.ext <;> simp only <;> omega

/-- The outlier bytes of the two programs are the same, whatever the keys are. -/
theorem outlier_eq (X : FVec Ideal S1x32x32x128x128 .f32) (M : IVec S1x32x32x128 32) (P : FVec Ideal S256x128 .f32)
    (h p : Fin 32) (b : Fin 128) (q : Fin 16) :
    outlierBytes X M P (headOf h p) b q = Ref.outlierRef X M P h p b q := by
  unfold outlierBytes Ref.outlierRef signBit
  simp only [keyOf_head, maskOf_head]

/-- The inlier bytes of the two programs are the same where the keys are finite. -/
theorem inlier_eq (X : FVec Ideal S1x32x32x128x128 .f32) (M : IVec S1x32x32x128 32) (P : FVec Ideal S256x128 .f32)
    (hX : ∀ i, max (X i : EReal) (-(X i : EReal)) < ⊤) (h p : Fin 32) (b : Fin 128) (q : Fin 32) :
    inlierBytes X M P (headOf h p) b q = Ref.inlierRef X M P h p b q := by
  unfold inlierBytes Ref.inlierRef signBit
  simp only [keyOf_head, maskOf_head]
  refine congrArg byteOf (funext fun e => congrArg (fun s => Ideal.cmp .ogt s 0) (Finset.sum_congr rfl fun k _ => ?_))
  exact congrArg (fun v => v * P _) (sub_mul_eq _ _ (hX _))

/-- The precondition says that every key is finite. -/
theorem finite_keys (m : (ℓ : Loc nD τ sig) → Buf (Elt Ideal) ℓ) (hm : Cert.Pre_KernelIdeal_finite_data m) (c : Dev nD)
    (i : S1x32x32x128x128.Idx) : FloatOps.absf (F := Ideal) (φ := .f32) (m ((c.tc : Thread nD τ).loc main_arg0) i) < (⊤ : EReal) := by
  have h := congrFun (hm c).1 i
  revert h
  pointwise [Cert.Pre_finite_data.fn]
  intro h
  have ht : Ideal.ofBits .f32 0x7F800000#32 = (⊤ : EReal) := by
    simp [Ideal.ofBits, Ideal.ieee]
  rw [ht] at h
  by_contra hn
  simp [hn] at h

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_data
public import proofs.«01_k».proof.Proof.KernelRun
public import proofs.«01_k».proof.Proof.RefValue
public import proofs.«01_k».proof.Proof.Equation
public import Idealize.ShloMosaic.Adequacy
public import Idealize.ShloMosaic.Init
public import Idealize.ShloMosaic.Lib.Pipeline.ValueKit
public import Idealize.ShloMosaic.Lib.Quiescent

@[expose] public section

set_option maxRecDepth 16384

noncomputable section

namespace Cert.Proof

open Idealize.ShloMosaic Idealize.SL.Sem

/-- The reference runs and leaves its arguments and the semaphores as they were. -/
theorem frame_reference (m : (ℓ : Loc ReferenceIdeal.nD ReferenceIdeal.τ ReferenceIdeal.sig) → Buf (Elt Ideal) ℓ)
    (ρ : Dev ReferenceIdeal.nD → PrngReg) :
    θ_run Cert.ReferenceIdeal.defs (onTc (τ := ReferenceIdeal.τ) (Cert.ReferenceIdeal.main (F := Ideal)))
      ⟨m, fun _ => 0, ρ⟩ (fun r => (∀ c : Dev ReferenceIdeal.nD,
        r.2.mem ((c.tc : Thread _ _).loc ReferenceIdeal.main_arg0) = m ((c.tc : Thread _ _).loc ReferenceIdeal.main_arg0)
        ∧ r.2.mem ((c.tc : Thread _ _).loc ReferenceIdeal.main_arg1) = m ((c.tc : Thread _ _).loc ReferenceIdeal.main_arg1)
        ∧ r.2.mem ((c.tc : Thread _ _).loc ReferenceIdeal.main_arg2) = m ((c.tc : Thread _ _).loc ReferenceIdeal.main_arg2))
        ∧ r.2.sem = fun _ => 0) :=
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- On finite keys the kernel and the reference end with the same bytes in both results. -/
theorem algebraic : Cert.algebraic_KernelIdeal_ReferenceIdeal_pre_finite_data := by
  intro m g m' g' hm hargs
  refine ⟨fun c => fun i : KernelIdeal.S1x32x32x128x32.Idx =>
      inlierBytes (m ((c.tc : Thread _ _).loc KernelIdeal.main_arg0)) (m ((c.tc : Thread _ _).loc KernelIdeal.main_arg1))
        (m ((c.tc : Thread _ _).loc KernelIdeal.main_arg2)) (headOf (i 1) (i 2)) (i 3) (i 4),
    fun c => fun i : KernelIdeal.S1x32x32x128x16.Idx =>
      outlierBytes (m ((c.tc : Thread _ _).loc KernelIdeal.main_arg0)) (m ((c.tc : Thread _ _).loc KernelIdeal.main_arg1))
        (m ((c.tc : Thread _ _).loc KernelIdeal.main_arg2)) (headOf (i 1) (i 2)) (i 3) (i 4), kernel_run m g, ?_⟩
  refine (θ_run Cert.ReferenceIdeal.defs _ _).mono (fun r h c => ⟨?_, ?_, (h c).2.2⟩) (Cert.ReferenceIdeal.Value.run (F := Ideal) m' g')
  · obtain ⟨h0, h1, h2⟩ := hargs c
    refine (h c).1.trans ((Ref.out0_value m' c).trans ?_)
    rw [h0, h1, h2]
    exact funext fun i => (inlier_eq _ _ _ (finite_keys m hm c) _ _ _ _).symm
  · obtain ⟨h0, h1, h2⟩ := hargs c
    refine (h c).2.1.trans ((Ref.out1_value m' c).trans ?_)
    rw [h0, h1, h2]
    exact funext fun i => (outlier_eq _ _ _ _ _ _ _).symm

/-- Everything the certificate claims. -/
theorem claim : Cert.Claim := ⟨Cert.Kernel.Gen.facts, Cert.KernelIdeal.Gen.facts, Cert.ReferenceIdeal.Gen.facts,
  Cert.Pre_finite_data.Gen.facts, fun m ρ _ => Cert.Kernel.Gen.frame m ρ, fun m ρ _ => Cert.KernelIdeal.Gen.frame m ρ,
  fun m ρ _ => Cert.KernelIdeal.Gen.frame m ρ, fun m ρ _ => frame_reference m ρ, fun m ρ _ => frame_reference m ρ, trivial,
  algebraic⟩

end Cert.Proof

end
